-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sentiment_in_range [hPre_sentiment_in_range : Cert.Pre_sentiment_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sentiment_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sentiment_in_range [hPre_sentiment_in_range : Cert.Pre_sentiment_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sentiment_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_sentiment_in_range [hKernelIdeal : Cert.KernelIdeal.Facts] [hPre_sentiment_in_range : Cert.Pre_sentiment_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sentiment_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_sentiment_in_range [hReferenceIdeal : Cert.ReferenceIdeal.Facts] [hPre_sentiment_in_range : Cert.Pre_sentiment_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sentiment_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "slope" .f32 0x3C23D70A#32 ((5368709 / 536870912 : ℝ) : EReal)
  ∧ IdealRules.named_const.Statement Cert.KernelIdeal.κ "slope" .bf16 0x3C24#16 ((5368709 / 536870912 : ℝ) : EReal)

def algebraic_KernelIdeal_ReferenceIdeal_pre_sentiment_in_range [hKernelIdeal : Cert.KernelIdeal.Facts] [hReferenceIdeal : Cert.ReferenceIdeal.Facts] [hPre_sentiment_in_range : Cert.Pre_sentiment_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sentiment_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_sentiment_in_range : Cert.Pre_sentiment_in_range.Facts),
    quiescent_Kernel (hKernel := hKernel)
    ∧ quiescent_KernelIdeal (hKernelIdeal := hKernelIdeal)
    ∧ quiescent_KernelIdeal_pre_sentiment_in_range (hKernelIdeal := hKernelIdeal) (hPre_sentiment_in_range := hPre_sentiment_in_range)
    ∧ quiescent_ReferenceIdeal (hReferenceIdeal := hReferenceIdeal)
    ∧ quiescent_ReferenceIdeal_pre_sentiment_in_range (hReferenceIdeal := hReferenceIdeal) (hPre_sentiment_in_range := hPre_sentiment_in_range)
    ∧ preserves_Kernel_KernelIdeal
    ∧ algebraic_KernelIdeal_ReferenceIdeal_pre_sentiment_in_range (hKernelIdeal := hKernelIdeal) (hReferenceIdeal := hReferenceIdeal) (hPre_sentiment_in_range := hPre_sentiment_in_range)
-- ==== Pre_sentiment_in_range.lean ====
abbrev S4096x128 : Shape := ⟨2, ![4096, 128]⟩
abbrev S4096x50x128 : Shape := ⟨3, ![4096, 50, 128]⟩
abbrev S4096x50 : Shape := ⟨2, ![4096, 50]⟩
abbrev S256x256 : Shape := ⟨2, ![256, 256]⟩
abbrev S256 : Shape := ⟨1, ![256]⟩
abbrev S128x256 : Shape := ⟨2, ![128, 256]⟩
abbrev S128 : Shape := ⟨1, ![128]⟩
abbrev S3x256x256 : Shape := ⟨3, ![3, 256, 256]⟩
abbrev S3x256 : Shape := ⟨2, ![3, 256]⟩
abbrev S3x128x256 : Shape := ⟨3, ![3, 128, 256]⟩
abbrev S3x128 : Shape := ⟨2, ![3, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : FVec F S4096x128 .f32) (main_arg1 : FVec F S4096x128 .f32) (main_arg2 : FVec F S4096x50x128 .f32) (main_arg3 : FVec F S4096x50x128 .f32) (main_arg4 : IVec S4096x50 32) (main_arg5 : FVec F S256x256 .f32) (main_arg6 : FVec F S256 .f32) (main_arg7 : FVec F S128x256 .f32) (main_arg8 : FVec F S128 .f32) (main_arg9 : FVec F S3x256x256 .f32) (main_arg10 : FVec F S3x256 .f32) (main_arg11 : FVec F S3x128x256 .f32) (main_arg12 : FVec F S3x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg4 main_v0
  let main_c_0 : IVec S_ 32 := constantI S_ 32 3#32
  let main_v2 : IVec S4096x50 32 := broadcastInDim S4096x50 ![] bcast_S_S4096x50 main_c_0
  let main_v3 : IVec S4096x50 1 := cmpi .slt main_arg4 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x128 : Shape := ⟨2, ![4096, 128]⟩
abbrev S4096x50x128 : Shape := ⟨3, ![4096, 50, 128]⟩
abbrev S4096x50 : Shape := ⟨2, ![4096, 50]⟩
abbrev S256x256 : Shape := ⟨2, ![256, 256]⟩
abbrev S256 : Shape := ⟨1, ![256]⟩
abbrev S128x256 : Shape := ⟨2, ![128, 256]⟩
abbrev S128 : Shape := ⟨1, ![128]⟩
abbrev S3x256x256 : Shape := ⟨3, ![3, 256, 256]⟩
abbrev S3x256 : Shape := ⟨2, ![3, 256]⟩
abbrev S3x128x256 : Shape := ⟨3, ![3, 128, 256]⟩
abbrev S3x128 : Shape := ⟨2, ![3, 128]⟩
abbrev S768x256 : Shape := ⟨2, ![768, 256]⟩
abbrev S768 : Shape := ⟨1, ![768]⟩
abbrev S64x128 : Shape := ⟨2, ![64, 128]⟩
abbrev S64x50x128 : Shape := ⟨3, ![64, 50, 128]⟩
abbrev S64x50 : Shape := ⟨2, ![64, 50]⟩
abbrev S256x128 : Shape := ⟨2, ![256, 128]⟩
abbrev S64x256 : Shape := ⟨2, ![64, 256]⟩
abbrev S1x256 : Shape := ⟨2, ![1, 256]⟩
abbrev S1x128 : Shape := ⟨2, ![1, 128]⟩
abbrev S64x1x128 : Shape := ⟨3, ![64, 1, 128]⟩
abbrev S64x50x256 : Shape := ⟨3, ![64, 50, 256]⟩
abbrev S64x14x256 : Shape := ⟨3, ![64, 14, 256]⟩
abbrev S64x64x256 : Shape := ⟨3, ![64, 64, 256]⟩
abbrev S4096x256 : Shape := ⟨2, ![4096, 256]⟩
abbrev S4096x768 : Shape := ⟨2, ![4096, 768]⟩
abbrev S1x768 : Shape := ⟨2, ![1, 768]⟩
abbrev S1x128x256 : Shape := ⟨3, ![1, 128, 256]⟩
abbrev S64x64x128 : Shape := ⟨3, ![64, 64, 128]⟩
abbrev S64x64 : Shape := ⟨2, ![64, 64]⟩

abbrev nBuf : Space → Nat
  | .hbm => 20
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x50x128, .f32⟩
  | .hbm, ⟨3, _⟩ => ⟨S4096x50x128, .f32⟩
  | .hbm, ⟨4, _⟩ => ⟨S4096x50, .i32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S3x256x256, .f32⟩
  | .hbm, ⟨10, _⟩ => ⟨S3x256, .f32⟩
  | .hbm, ⟨11, _⟩ => ⟨S3x128x256, .f32⟩
  | .hbm, ⟨12, _⟩ => ⟨S3x128, .f32⟩
  | .hbm, ⟨13, _⟩ => ⟨S256x256, .bf16⟩
  | .hbm, ⟨14, _⟩ => ⟨S128x256, .bf16⟩
  | .hbm, ⟨15, _⟩ => ⟨S768x256, .f32⟩
  | .hbm, ⟨16, _⟩ => ⟨S768x256, .bf16⟩
  | .hbm, ⟨17, _⟩ => ⟨S768, .f32⟩
  | .hbm, ⟨18, _⟩ => ⟨S3x128x256, .bf16⟩
  | .hbm, ⟨19, _⟩ => ⟨S4096x50, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x50x128, .f32⟩
  | .local _ .vmem, ⟨5, _⟩ => ⟨S64x50x128, .f32⟩
  | .local _ .vmem, ⟨6, _⟩ => ⟨S64x50x128, .f32⟩
  | .local _ .vmem, ⟨7, _⟩ => ⟨S64x50x128, .f32⟩
  | .local _ .vmem, ⟨8, _⟩ => ⟨S64x50, .i32⟩
  | .local _ .vmem, ⟨9, _⟩ => ⟨S64x50, .i32⟩
  | .local _ .vmem, ⟨10, _⟩ => ⟨S256x256, .bf16⟩
  | .local _ .vmem, ⟨11, _⟩ => ⟨S256, .f32⟩
  | .local _ .vmem, ⟨12, _⟩ => ⟨S128x256, .bf16⟩
  | .local _ .vmem, ⟨13, _⟩ => ⟨S128, .f32⟩
  | .local _ .vmem, ⟨14, _⟩ => ⟨S768x256, .bf16⟩
  | .local _ .vmem, ⟨15, _⟩ => ⟨S768, .f32⟩
  | .local _ .vmem, ⟨16, _⟩ => ⟨S3x128x256, .bf16⟩
  | .local _ .vmem, ⟨17, _⟩ => ⟨S3x128, .f32⟩
  | .local _ .vmem, ⟨18, _⟩ => ⟨S64x50, .f32⟩
  | .local _ .vmem, ⟨19, _⟩ => ⟨S64x50, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x50x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x50 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x50 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "slope" => some ((5368709 / 536870912 : ℝ) : EReal)
  | _ => none
-- ==== ReferenceIdeal.lean ====
abbrev S4096x128 : Shape := ⟨2, ![4096, 128]⟩
abbrev S4096x50x128 : Shape := ⟨3, ![4096, 50, 128]⟩
abbrev S4096x50 : Shape := ⟨2, ![4096, 50]⟩
abbrev S256x256 : Shape := ⟨2, ![256, 256]⟩
abbrev S256 : Shape := ⟨1, ![256]⟩
abbrev S128x256 : Shape := ⟨2, ![128, 256]⟩
abbrev S128 : Shape := ⟨1, ![128]⟩
abbrev S3x256x256 : Shape := ⟨3, ![3, 256, 256]⟩
abbrev S3x256 : Shape := ⟨2, ![3, 256]⟩
abbrev S3x128x256 : Shape := ⟨3, ![3, 128, 256]⟩
abbrev S3x128 : Shape := ⟨2, ![3, 128]⟩
abbrev S4096x256 : Shape := ⟨2, ![4096, 256]⟩
abbrev S4096x50x256 : Shape := ⟨3, ![4096, 50, 256]⟩
abbrev S1x256 : Shape := ⟨2, ![1, 256]⟩
abbrev S_ : Shape := ⟨0, ![]⟩
abbrev S256x128 : Shape := ⟨2, ![256, 128]⟩
abbrev S1x128 : Shape := ⟨2, ![1, 128]⟩
abbrev S3x256x4096x50 : Shape := ⟨4, ![3, 256, 4096, 50]⟩
abbrev S3x4096x50x256 : Shape := ⟨4, ![3, 4096, 50, 256]⟩
abbrev S3x1x1x256 : Shape := ⟨4, ![3, 1, 1, 256]⟩
abbrev S3x4096x50x128 : Shape := ⟨4, ![3, 4096, 50, 128]⟩
abbrev S3x1x1x128 : Shape := ⟨4, ![3, 1, 1, 128]⟩
abbrev S4096x50x3x128 : Shape := ⟨4, ![4096, 50, 3, 128]⟩
abbrev S4096x50x1x1 : Shape := ⟨4, ![4096, 50, 1, 1]⟩
abbrev S1 : Shape := ⟨1, ![1]⟩
abbrev S1x1x1x1 : Shape := ⟨4, ![1, 1, 1, 1]⟩
abbrev S4096x50x1 : Shape := ⟨3, ![4096, 50, 1]⟩
abbrev S4096x50x1x128 : Shape := ⟨4, ![4096, 50, 1, 128]⟩
abbrev S4096x1x128 : Shape := ⟨3, ![4096, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x50x128, .f32⟩
  | .hbm, ⟨3, _⟩ => ⟨S4096x50x128, .f32⟩
  | .hbm, ⟨4, _⟩ => ⟨S4096x50, .i32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S3x256x256, .f32⟩
  | .hbm, ⟨10, _⟩ => ⟨S3x256, .f32⟩
  | .hbm, ⟨11, _⟩ => ⟨S3x128x256, .f32⟩
  | .hbm, ⟨12, _⟩ => ⟨S3x128, .f32⟩
  | .hbm, ⟨13, _⟩ => ⟨S4096x256, .f32⟩
  | .hbm, ⟨14, _⟩ => ⟨S4096x50x256, .f32⟩
  | .hbm, ⟨15, _⟩ => ⟨S256x256, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .i1⟩
  | .hbm, ⟨23, _⟩ => ⟨S_, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S256x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S4096x128, .f32⟩
  | .hbm, ⟨34, _⟩ => ⟨S4096x128, .i1⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S3x256x4096x50, .f32⟩
  | .hbm, ⟨40, _⟩ => ⟨S3x4096x50x256, .f32⟩
  | .hbm, ⟨41, _⟩ => ⟨S3x1x1x256, .f32⟩
  | .hbm, ⟨42, _⟩ => ⟨S3x4096x50x256, .f32⟩
  | .hbm, ⟨43, _⟩ => ⟨S3x4096x50x256, .f32⟩
  | .hbm, ⟨44, _⟩ => ⟨S_, .f32⟩
  | .hbm, ⟨45, _⟩ => ⟨S3x4096x50x256, .f32⟩
  | .hbm, ⟨46, _⟩ => ⟨S3x4096x50x256, .i1⟩
  | .hbm, ⟨47, _⟩ => ⟨S_, .f32⟩
  | .hbm, ⟨48, _⟩ => ⟨S3x4096x50x256, .f32⟩
  | .hbm, ⟨49, _⟩ => ⟨S3x4096x50x256, .f32⟩
  | .hbm, ⟨50, _⟩ => ⟨S3x4096x50x256, .f32⟩
  | .hbm, ⟨51, _⟩ => ⟨S3x4096x50x128, .f32⟩
  | .hbm, ⟨52, _⟩ => ⟨S3x1x1x128, .f32⟩
  | .hbm, ⟨53, _⟩ => ⟨S3x4096x50x128, .f32⟩
  | .hbm, ⟨54, _⟩ => ⟨S3x4096x50x128, .f32⟩
  | .hbm, ⟨55, _⟩ => ⟨S_, .f32⟩
  | .hbm, ⟨56, _⟩ => ⟨S3x4096x50x128, .f32⟩
  | .hbm, ⟨57, _⟩ => ⟨S3x4096x50x128, .i1⟩
  | .hbm, ⟨58, _⟩ => ⟨S_, .f32⟩
  | .hbm, ⟨59, _⟩ => ⟨S3x4096x50x128, .f32⟩
  | .hbm, ⟨60, _⟩ => ⟨S3x4096x50x128, .f32⟩
  | .hbm, ⟨61, _⟩ => ⟨S3x4096x50x128, .f32⟩
  | .hbm, ⟨62, _⟩ => ⟨S4096x50x3x128, .f32⟩
  | .hbm, ⟨63, _⟩ => ⟨S4096x50x1x1, .i32⟩
  | .hbm, ⟨64, _⟩ => ⟨S_, .i32⟩
  | .hbm, ⟨65, _⟩ => ⟨S4096x50x1x1, .i32⟩
  | .hbm, ⟨66, _⟩ => ⟨S4096x50x1x1, .i1⟩
  | .hbm, ⟨67, _⟩ => ⟨S_, .i32⟩
  | .hbm, ⟨68, _⟩ => ⟨S4096x50x1x1, .i32⟩
  | .hbm, ⟨69, _⟩ => ⟨S4096x50x1x1, .i32⟩
  | .hbm, ⟨70, _⟩ => ⟨S4096x50x1x1, .i32⟩
  | .hbm, ⟨71, _⟩ => ⟨S1, .i32⟩
  | .hbm, ⟨72, _⟩ => ⟨S_, .i32⟩
  | .hbm, ⟨73, _⟩ => ⟨S4096x50x1x1, .i32⟩
  | .hbm, ⟨74, _⟩ => ⟨S4096x50x1x1, .i1⟩
  | .hbm, ⟨75, _⟩ => ⟨S1x1x1x1, .i32⟩
  | .hbm, ⟨76, _⟩ => ⟨S4096x50x1x1, .i32⟩
  | .hbm, ⟨77, _⟩ => ⟨S4096x50x1x1, .i1⟩
  | .hbm, ⟨78, _⟩ => ⟨S4096x50x1x1, .i1⟩
  | .hbm, ⟨79, _⟩ => ⟨S_, .i1⟩
  | .hbm, ⟨80, _⟩ => ⟨S4096x50x1, .i1⟩
  | .hbm, ⟨81, _⟩ => ⟨S4096x50x1x128, .f32⟩
  | .hbm, ⟨82, _⟩ => ⟨S4096x50x1x128, .i1⟩
  | .hbm, ⟨83, _⟩ => ⟨S_, .f32⟩
  | .hbm, ⟨84, _⟩ => ⟨S4096x50x1x128, .f32⟩
  | .hbm, ⟨85, _⟩ => ⟨S4096x50x1x128, .f32⟩
  | .hbm, ⟨86, _⟩ => ⟨S4096x50x128, .f32⟩
  | .hbm, ⟨87, _⟩ => ⟨S4096x1x128, .f32⟩
  | .hbm, ⟨88, _⟩ => ⟨S4096x50x128, .f32⟩
  | .hbm, ⟨89, _⟩ => ⟨S4096x50x128, .f32⟩
  | .hbm, ⟨90, _⟩ => ⟨S_, .f32⟩
  | .hbm, ⟨91, _⟩ => ⟨S4096x50, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_c_1 : Ref sig .tc := ⟨.hbm, 71, rfl⟩
abbrev main_call4_c_2 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_c_3 : Ref sig .tc := ⟨.hbm, 79, rfl⟩
abbrev main_call4_v11 : Ref sig .tc := ⟨.hbm, 80, rfl⟩
abbrev main_call4_v12 : Ref sig .tc := ⟨.hbm, 81, rfl⟩
abbrev main_call4_v13 : Ref sig .tc := ⟨.hbm, 82, rfl⟩
abbrev main_call4_cst : Ref sig .tc := ⟨.hbm, 83, rfl⟩
abbrev main_call4_v14 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_7 : Ref sig .tc := ⟨.hbm, 90, rfl⟩
abbrev main_v48 : Ref sig .tc := ⟨.hbm, 91, rfl⟩

abbrev nD : Nat := 1
abbrev τ : Topo := Topo.v7x

variable {F : FTy → Type} [FloatOps F]
-- ==== Proof.Spec.lean ====
/- The mathematics of the problem, one user and one history entry at a time, on the extended reals. Nothing here speaks
   of a program: `mlp` is a two-layer network with the leaky rectifier after each layer, applied to a row given as two
   halves of 128; `score` is the inner product of two such outputs. Then the facts about the rectifier's slope that the
   two programs' spellings of it need. -/
module

public import Idealize.ShloMosaic.PureOps.Ideal
public import Idealize.ShloMosaic.Lib.Pointwise

@[expose] public section

noncomputable section

namespace Cert.Score

open Idealize.ShloMosaic

/-- The rectifier's slope below zero: the real that the f32 word of `0.01` denotes. -/
def slope : ℝ := 5368709 / 536870912

/-- The leaky rectifier: the identity above zero, a multiplication by the slope elsewhere. -/
def lk (x : EReal) : EReal := if 0 < x then x else (slope : EReal) * x

/-- One hidden unit `k` of the network on the row whose first half is `p` and whose second half is `q`: the first
    layer's weights of unit `k` are `Wp k` on the first half and `Wq k` on the second, its bias `b k`. -/
def hidden (p q : Fin 128 → EReal) (Wp Wq : Fin 256 → Fin 128 → EReal) (b : Fin 256 → EReal) (k : Fin 256) : EReal :=
  lk (∑ l, p l * Wp k l + ∑ l, q l * Wq k l + b k)

/-- One output `j` of the network: the second layer, weights `V j` and bias `d j`, over the 256 hidden units. -/
def mlp (p q : Fin 128 → EReal) (Wp Wq : Fin 256 → Fin 128 → EReal) (b : Fin 256 → EReal)
    (V : Fin 128 → Fin 256 → EReal) (d : Fin 128 → EReal) (j : Fin 128) : EReal :=
  lk (∑ k, hidden p q Wp Wq b k * V j k + d j)

/-- The score of a user's embedding against a history entry's: the inner product. -/
def score (x y : Fin 128 → EReal) : EReal := ∑ j, x j * y j

/-- The expert that a sentiment word names. -/
def expert (w : BitVec 32) : Fin 3 := ⟨w.toNat % 3, Nat.mod_lt _ (by norm_num)⟩

/-- The whole result as a function of the thirteen arguments: at `(b, n)` the score of user `b`'s embedding (the network
    on the user's row and the item's) against the output of the expert that the sentiment at `(b, n)` names (its network
    on the aspect's row and the opinion's). -/
def result (ue it : FVec Ideal ⟨2, ![4096, 128]⟩ .f32) (ae oe : FVec Ideal ⟨3, ![4096, 50, 128]⟩ .f32)
    (s : IVec ⟨2, ![4096, 50]⟩ 32) (uW0 : FVec Ideal ⟨2, ![256, 256]⟩ .f32) (ub0 : FVec Ideal ⟨1, ![256]⟩ .f32)
    (uW1 : FVec Ideal ⟨2, ![128, 256]⟩ .f32) (ub1 : FVec Ideal ⟨1, ![128]⟩ .f32)
    (aW0 : FVec Ideal ⟨3, ![3, 256, 256]⟩ .f32) (ab0 : FVec Ideal ⟨2, ![3, 256]⟩ .f32)
    (aW1 : FVec Ideal ⟨3, ![3, 128, 256]⟩ .f32) (ab1 : FVec Ideal ⟨2, ![3, 128]⟩ .f32) :
    FVec Ideal ⟨2, ![4096, 50]⟩ .f32 := fun i =>
  let r := expert (s i)
  score
    (mlp (fun l => ue (ix2 (i 0) l)) (fun l => it (ix2 (i 0) l)) (fun k l => uW0 (ix2 k ⟨l.val, by omega⟩))
      (fun k l => uW0 (ix2 k ⟨128 + l.val, by omega⟩)) (fun k => ub0 (ix1 k)) (fun j k => uW1 (ix2 j k)) (fun j => ub1 (ix1 j)))
    (mlp (fun l => ae (ix3 (i 0) (i 1) l)) (fun l => oe (ix3 (i 0) (i 1) l)) (fun k l => aW0 (ix3 r k ⟨l.val, by omega⟩))
      (fun k l => aW0 (ix3 r k ⟨128 + l.val, by omega⟩)) (fun k => ab0 (ix2 r k)) (fun j k => aW1 (ix3 r j k))
      (fun j => ab1 (ix2 r j)))

theorem slope_pos : 0 < slope := by unfold slope; norm_num
theorem slope_lt_one : slope < 1 := by unfold slope; norm_num

/-- The greater of a number and its multiple by the slope is the leaky rectifier, at the infinities too. -/
theorem max_mul_slope (x : EReal) : max x (x * (slope : EReal)) = lk x := by
  unfold lk
  induction x using EReal.rec with
  | bot => simp [EReal.bot_mul_coe_of_pos slope_pos, EReal.coe_mul_bot_of_pos slope_pos]
  | top => simp
  | coe r =>
    rw [mul_comm (slope : EReal), ← EReal.coe_mul]
    split
    · rename_i h
      have h' : 0 < r := by exact_mod_cast h
      exact max_eq_left (by exact_mod_cast (by nlinarith [slope_lt_one] : r * slope ≤ r))
    · rename_i h
      have h' : r ≤ 0 := by
        have : ¬ (0 < r) := fun h2 => h (by exact_mod_cast h2)
        linarith
      exact max_eq_right (by exact_mod_cast (by nlinarith [slope_lt_one] : r ≤ r * slope))

/-- The f32 word of `0.01` denotes the slope. -/
theorem ofBits_slope : Ideal.ofBits .f32 0x3C23D70A#32 = (slope : EReal) := by
  unfold slope
  simp [Ideal.ofBits, Ideal.ieee, -EReal.coe_mul]; norm_num

end Cert.Score

end
-- ==== Proof.Block.lean ====
/- What the kernel's body computes from the blocks that one grid point reads, at one index: the user's embedding, the
   experts' hidden layer over the padded rows, and one expert's contribution to the score. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Cert.Score Idealize.ShloMosaic

/-- The kernel's named constant, in f32, is the slope. -/
theorem named_f32 : Named.named (F := Ideal) κ "slope" (φ := .f32) 0x3C23D70A#32 = (slope : EReal) :=
  IdealRules.named_const.ideal_named_scalar _ _ _ _ rfl

/-- The kernel's named constant, in bf16, is the slope. -/
theorem named_bf16 : Named.named (F := Ideal) κ "slope" (φ := .bf16) 0x3C24#16 = (slope : EReal) :=
  IdealRules.named_const.ideal_named_scalar _ _ _ _ rfl

/-- The user's embedding of block row `b`: the network on the row's two halves. -/
theorem user_apply (v0 v2 : FVec Ideal S64x128 .f32) (v4 v7 : FVec Ideal S256x128 .bf16) (v11 : FVec Ideal S256 .f32)
    (v19 : FVec Ideal S128x256 .bf16) (v22 : FVec Ideal S128 .f32) (b : Fin 64) (z : Fin 1) (j : Fin 128) :
    k0_pay2 (F := Ideal) v0 v2 v4 v7 v11 v19 v22 (ix3 b z j)
      = mlp (fun l => v0 (ix2 b l)) (fun l => v2 (ix2 b l)) (fun k l => v4 (ix2 k l)) (fun k l => v7 (ix2 k l))
          (fun k => v11 (ix1 k)) (fun j k => v19 (ix2 j k)) (fun j => v22 (ix1 j)) j := by
  pointwise [k0_pay2, mlp, Cert.Score.hidden, named_f32]
  simp only [max_mul_slope]

/-- Row `64 b + n` of the padded rows, a true history entry (`n` below 50), and column `256 r + k` of the three experts'
    stacked first layers: hidden unit `k` of expert `r` on entry `n` of block row `b`. -/
theorem hidden_apply (v30 v32 : FVec Ideal S64x50x128 .f32) (c : Ideal .bf16) (v38 : FVec Ideal S768x256 .bf16)
    (v41 : FVec Ideal S768 .f32) (b : Fin 64) (n : Fin 50) (r : Fin 3) (k : Fin 256) (hρ : b.val * 64 + n.val < 4096)
    (he : 256 * r.val + k.val < 768) :
    k0_pay4 (F := Ideal) (k0_pay3 v30 v32) c v38 v41 (ix2 ⟨b.val * 64 + n.val, hρ⟩ ⟨256 * r.val + k.val, he⟩)
      = Cert.Score.hidden (fun l => v30 (ix3 b n l)) (fun l => v32 (ix3 b n l))
          (fun k l => v38 (ix2 ⟨256 * r.val + k.val, by omega⟩ ⟨l.val, by omega⟩))
          (fun k l => v38 (ix2 ⟨256 * r.val + k.val, by omega⟩ ⟨128 + l.val, by omega⟩))
          (fun k => v41 (ix1 ⟨256 * r.val + k.val, by omega⟩)) k := by
  have h1 : (b.val * 64 + n.val) / 64 = b.val := by omega
  have h2 : (b.val * 64 + n.val) % 64 = n.val := by omega
  pointwise [k0_pay4, k0_pay3, Cert.Score.hidden, named_bf16]
  simp only [h1, h2, n.isLt, max_mul_slope, dite_true, dif_pos]

/-- One expert's contribution from its hidden units `h` (a row per padded entry), second layer `V`, `d` and the user's
    embedding `u`: the inner product of the expert's output with the embedding where the entry's sentiment `s` is the
    expert's number `w`, and zero elsewhere. -/
def part (s w : BitVec 32) (h : Fin 256 → EReal) (V : Fin 128 → Fin 256 → EReal) (d u : Fin 128 → EReal) : EReal :=
  if s = w then ∑ j, lk (∑ k, h k * V j k + d j) * u j else 0

/-- A choice by the bit of an equality of words is the choice by the equality. -/
theorem select_eq (s w : BitVec 32) (x y : EReal) : Scalar.select (IntOp.cmpi .eq s w) x y = if s = w then x else y := by
  unfold IntOp.cmpi Scalar.select
  by_cases h : s = w
  · simp [h]
  · simp [h, show (s == w) = false from by simpa using h]

/-- The first expert's contribution to entry `n` of block row `b`, added to zero. -/
theorem pay5_apply (v29 : FVec Ideal S64x1x128 .f32) (v34 : FVec Ideal S64x50x256 .bf16) (c : Ideal .bf16)
    (v38 : FVec Ideal S768x256 .bf16) (v41 : FVec Ideal S768 .f32) (v50 : IVec S64x50 32) (v53 : FVec Ideal S1x128x256 .bf16)
    (v56 : FVec Ideal S1x128 .f32) (b : Fin 64) (n : Fin 50) :
    k0_pay5 (F := Ideal) v29 v34 c v38 v41 v50 v53 v56 (ix2 b n)
      = part (v50 (ix2 b n)) 0#32
          (fun k => k0_pay4 (F := Ideal) v34 c v38 v41 (ix2 ⟨b.val * 64 + n.val, by omega⟩ ⟨k.val, by omega⟩))
          (fun j k => v53 (ix3 0 j k)) (fun j => v56 (ix2 0 j)) (fun j => v29 (ix3 b 0 j)) := by
  pointwise [k0_pay5, named_f32, part]
  simp only [max_mul_slope, select_eq]

/-- The second expert's contribution, added to the running value `v73`. -/
theorem pay7_apply (v29 : FVec Ideal S64x1x128 .f32) (v50 : IVec S64x50 32) (v73 : FVec Ideal S64x50 .f32)
    (v34 : FVec Ideal S64x50x256 .bf16) (c : Ideal .bf16) (v38 : FVec Ideal S768x256 .bf16) (v41 : FVec Ideal S768 .f32)
    (v75 : FVec Ideal S1x128x256 .bf16) (v78 : FVec Ideal S1x128 .f32) (b : Fin 64) (n : Fin 50) :
    k0_pay7 (F := Ideal) v29 v50 v73 (k0_pay6 v34 c v38 v41) v75 v78 (ix2 b n)
      = v73 (ix2 b n) + part (v50 (ix2 b n)) 1#32
          (fun k => k0_pay4 (F := Ideal) v34 c v38 v41 (ix2 ⟨b.val * 64 + n.val, by omega⟩ ⟨256 + k.val, by omega⟩))
          (fun j k => v75 (ix3 0 j k)) (fun j => v78 (ix2 0 j)) (fun j => v29 (ix3 b 0 j)) := by
  pointwise [k0_pay7, k0_pay6, named_f32, part]
  simp only [max_mul_slope, select_eq]

/-- The third expert's contribution. -/
theorem pay8_apply (v29 : FVec Ideal S64x1x128 .f32) (v49 : FVec Ideal S4096x768 .bf16) (v50 : IVec S64x50 32)
    (v97 : FVec Ideal S1x128x256 .bf16) (v100 : FVec Ideal S1x128 .f32) (b : Fin 64) (n : Fin 50) :
    k0_pay8 (F := Ideal) v29 v49 v50 v97 v100 (ix2 b n)
      = part (v50 (ix2 b n)) 2#32
          (fun k => v49 (ix2 ⟨b.val * 64 + n.val, by omega⟩ ⟨512 + k.val, by omega⟩))
          (fun j k => v97 (ix3 0 j k)) (fun j => v100 (ix2 0 j)) (fun j => v29 (ix3 b 0 j)) := by
  pointwise [k0_pay8, named_f32, part]
  simp only [max_mul_slope, select_eq]

/-- Of three contributions only that of the expert which the sentiment names is kept. -/
theorem parts_eq (r : Fin 3) (s : BitVec 32) (hs : s = BitVec.ofNat 32 r.val) (h : Fin 3 → Fin 256 → EReal)
    (V : Fin 3 → Fin 128 → Fin 256 → EReal) (d : Fin 3 → Fin 128 → EReal) (u : Fin 128 → EReal) :
    part s 0#32 (h 0) (V 0) (d 0) u + part s 1#32 (h 1) (V 1) (d 1) u + part s 2#32 (h 2) (V 2) (d 2) u
      = score u fun j => lk (∑ k, h r k * V r j k + d r j) := by
  subst hs
  unfold part score
  fin_cases r <;> simp [mul_comm]

end Cert.KernelIdeal.Block

end
-- ==== Proof.Array.lean ====
/- What the kernel's result array holds: entry `(b, n)` is the score of user `b` against the entry's output under the
   expert that the entry's sentiment names. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Cert.Score Idealize.ShloMosaic Idealize.ShloMosaic.TcCoe Idealize.SL.Sem
open Idealize.ShloMosaic.Pipeline (Dat)

/-- What one grid point stores for entry `n` of block row `b`, from the blocks it reads, where the entry's sentiment is
    the number of expert `r`. -/
theorem out_apply (x0 x1 : FVec Ideal S64x128 .f32) (x2 x3 : FVec Ideal S64x50x128 .f32) (x4 : IVec S64x50 32)
    (x5 : FVec Ideal S256x256 .bf16) (x6 : FVec Ideal S256 .f32) (x7 : FVec Ideal S128x256 .bf16) (x8 : FVec Ideal S128 .f32)
    (x9 : FVec Ideal S768x256 .bf16) (x10 : FVec Ideal S768 .f32) (x11 : FVec Ideal S3x128x256 .bf16) (x12 : FVec Ideal S3x128 .f32)
    (b : Fin 64) (n : Fin 50) (r : Fin 3) (hs : x4 (ix2 b n) = BitVec.ofNat 32 r.val) :
    out0_13 (F := Ideal) x0 x1 x2 x3 x4 x5 x6 x7 x8 x9 x10 x11 x12 (ix2 b n)
      = score
          (mlp (fun l => x0 (ix2 b l)) (fun l => x1 (ix2 b l)) (fun k l => x5 (ix2 k ⟨l.val, by omega⟩))
            (fun k l => x5 (ix2 k ⟨128 + l.val, by omega⟩)) (fun k => x6 (ix1 k)) (fun j k => x7 (ix2 j k)) (fun j => x8 (ix1 j)))
          (mlp (fun l => x2 (ix3 b n l)) (fun l => x3 (ix3 b n l))
            (fun k l => x9 (ix2 ⟨256 * r.val + k.val, by omega⟩ ⟨l.val, by omega⟩))
            (fun k l => x9 (ix2 ⟨256 * r.val + k.val, by omega⟩ ⟨128 + l.val, by omega⟩))
            (fun k => x10 (ix1 ⟨256 * r.val + k.val, by omega⟩)) (fun j k => x11 (ix3 r j k)) (fun j => x12 (ix2 r j))) := by
  frame_out
  have hu : ∀ j : Fin 128, k0_pay9 (F := Ideal) x0 x1 x2 x3 x4 x5 x6 x7 x8 x9 x10 x11 x12 (ix3 b 0 j)
      = mlp (fun l => x0 (ix2 b l)) (fun l => x1 (ix2 b l)) (fun k l => x5 (ix2 k ⟨l.val, by omega⟩))
            (fun k l => x5 (ix2 k ⟨128 + l.val, by omega⟩)) (fun k => x6 (ix1 k)) (fun j k => x7 (ix2 j k))
            (fun j => x8 (ix1 j)) j := by
    intro j
    unfold k0_pay9
    rw [user_apply]
    pointwise
  have hh : ∀ (r : Fin 3) (k : Fin 256) (e : Fin 768) (he : e.val = 256 * r.val + k.val),
      k0_pay4 (F := Ideal) (k0_pay10 x0 x1 x2 x3 x4 x5 x6 x7 x8 x9 x10 x11 x12) (FloatOps.ofBits FTy.bf16 0#16) x9 x10
          (ix2 ⟨b.val * 64 + n.val, by omega⟩ e)
      = Cert.Score.hidden (fun l => x2 (ix3 b n l)) (fun l => x3 (ix3 b n l))
            (fun k l => x9 (ix2 ⟨256 * r.val + k.val, by omega⟩ ⟨l.val, by omega⟩))
            (fun k l => x9 (ix2 ⟨256 * r.val + k.val, by omega⟩ ⟨128 + l.val, by omega⟩))
            (fun k => x10 (ix1 ⟨256 * r.val + k.val, by omega⟩)) k := by
    intro r k e he
    obtain ⟨e, he'⟩ := e
    change e = 256 * r.val + k.val at he
    subst he
    unfold k0_pay10
    rw [hidden_apply]
    pointwise
  have h0 := fun k : Fin 256 => hh 0 k ⟨k.val, by omega⟩ (by simp)
  have h1 := fun k : Fin 256 => hh 1 k ⟨256 + k.val, by omega⟩ (by simp)
  have h2 := fun k : Fin 256 => hh 2 k ⟨512 + k.val, by omega⟩ (by simp)
  unfold k0_pay1
  show addf _ _ (ix2 b n) = _
  rw [addf_apply, pay7_apply, pay5_apply, pay8_apply]
  simp only [hu, h0, h1, h2]
  refine Eq.trans ?_ (parts_eq r _ hs
    (fun r k => Cert.Score.hidden (fun l => x2 (ix3 b n l)) (fun l => x3 (ix3 b n l))
            (fun k l => x9 (ix2 ⟨256 * r.val + k.val, by omega⟩ ⟨l.val, by omega⟩))
            (fun k l => x9 (ix2 ⟨256 * r.val + k.val, by omega⟩ ⟨128 + l.val, by omega⟩))
            (fun k => x10 (ix1 ⟨256 * r.val + k.val, by omega⟩)) k)
    (fun r j k => x11 (ix3 r j k)) (fun r j => x12 (ix2 r j)) _)
  pointwise

variable (m : (ℓ : Loc nD τ sig) → Buf (Elt Ideal) ℓ)

/-- The grid's point `t` reads and writes block `t` of the row axis of the five per-row arguments and of the result, and
    the whole of every weight. -/
theorem idx : ∀ t : Fin cfg0.N, win0_0.index t = ![t.val, 0] ∧ win0_1.index t = ![t.val, 0]
    ∧ win0_2.index t = ![t.val, 0, 0] ∧ win0_3.index t = ![t.val, 0, 0] ∧ win0_4.index t = ![t.val, 0]
    ∧ win0_5.index t = ![0, 0] ∧ win0_6.index t = ![0] ∧ win0_7.index t = ![0, 0] ∧ win0_8.index t = ![0]
    ∧ win0_9.index t = ![0, 0] ∧ win0_10.index t = ![0] ∧ win0_11.index t = ![0, 0, 0] ∧ win0_12.index t = ![0, 0]
    ∧ win0_13.index t = ![t.val, 0] := by
  decide +kernel

/-- The grid has 64 points. -/
theorem points : cfg0.N = 64 := N_0

/-- Row `b` of block `t` of the row axis. -/
def row (t : Fin cfg0.N) (b : Fin 64) : Fin 4096 := ⟨t.val * 64 + b.val, by have := t.isLt; have := points; omega⟩

/-- The block of user rows is the rows of its block of the argument. -/
theorem read0 (c : Dev nD) (t : Fin cfg0.N) (b : Fin 64) (l : Fin 128) :
    (iblk m c 0 t : FVec Ideal S64x128 .f32) (ix2 b l) = (m ((c : Thread nD τ).loc main_arg0) : FVec Ideal S4096x128 .f32) (ix2 (row t b) l) := by
  blk_ext! [iblk, V, idx t]
  rfl

/-- The block of item rows, the same. -/
theorem read1 (c : Dev nD) (t : Fin cfg0.N) (b : Fin 64) (l : Fin 128) :
    (iblk m c 1 t : FVec Ideal S64x128 .f32) (ix2 b l) = (m ((c : Thread nD τ).loc main_arg1) : FVec Ideal S4096x128 .f32) (ix2 (row t b) l) := by
  blk_ext! [iblk, V, idx t]
  rfl

/-- The block of aspect rows, the same. -/
theorem read2 (c : Dev nD) (t : Fin cfg0.N) (b : Fin 64) (n : Fin 50) (l : Fin 128) :
    (iblk m c 2 t : FVec Ideal S64x50x128 .f32) (ix3 b n l) = (m ((c : Thread nD τ).loc main_arg2) : FVec Ideal S4096x50x128 .f32) (ix3 (row t b) n l) := by
  blk_ext! [iblk, V, idx t]
  rfl

/-- The block of opinion rows, the same. -/
theorem read3 (c : Dev nD) (t : Fin cfg0.N) (b : Fin 64) (n : Fin 50) (l : Fin 128) :
    (iblk m c 3 t : FVec Ideal S64x50x128 .f32) (ix3 b n l) = (m ((c : Thread nD τ).loc main_arg3) : FVec Ideal S4096x50x128 .f32) (ix3 (row t b) n l) := by
  blk_ext! [iblk, V, idx t]
  rfl

/-- The block of sentiments, the same. -/
theorem read4 (c : Dev nD) (t : Fin cfg0.N) (b : Fin 64) (n : Fin 50) :
    (iblk m c 4 t : IVec S64x50 32) (ix2 b n) = (m ((c : Thread nD τ).loc main_arg4) : IVec S4096x50 32) (ix2 (row t b) n) := by
  blk_ext! [iblk, V, idx t]
  rfl

/-- The user network's first layer, rounded on entry, which is no change here: the argument. -/
theorem read5 (c : Dev nD) (t : Fin cfg0.N) (k l : Fin 256) :
    (iblk m c 5 t : FVec Ideal S256x256 .bf16) (ix2 k l) = (m ((c : Thread nD τ).loc main_arg5) : FVec Ideal S256x256 .f32) (ix2 k l) := by
  blk_ext! [iblk, V, idx t]

/-- The user network's first bias: the argument. -/
theorem read6 (c : Dev nD) (t : Fin cfg0.N) (k : Fin 256) :
    (iblk m c 6 t : FVec Ideal S256 .f32) (ix1 k) = (m ((c : Thread nD τ).loc main_arg6) : FVec Ideal S256 .f32) (ix1 k) := by
  blk_ext! [iblk, V, idx t]

/-- The user network's second layer, rounded on entry, which is no change here: the argument. -/
theorem read7 (c : Dev nD) (t : Fin cfg0.N) (j : Fin 128) (k : Fin 256) :
    (iblk m c 7 t : FVec Ideal S128x256 .bf16) (ix2 j k) = (m ((c : Thread nD τ).loc main_arg7) : FVec Ideal S128x256 .f32) (ix2 j k) := by
  blk_ext! [iblk, V, idx t]

/-- The user network's second bias: the argument. -/
theorem read8 (c : Dev nD) (t : Fin cfg0.N) (j : Fin 128) :
    (iblk m c 8 t : FVec Ideal S128 .f32) (ix1 j) = (m ((c : Thread nD τ).loc main_arg8) : FVec Ideal S128 .f32) (ix1 j) := by
  blk_ext! [iblk, V, idx t]

/-- The experts' stacked first layers, rounded on entry, which is no change here: the argument. -/
theorem read9 (c : Dev nD) (t : Fin cfg0.N) (r : Fin 3) (k l : Fin 256) :
    (iblk m c 9 t : FVec Ideal S768x256 .bf16) (ix2 ⟨256 * r.val + k.val, by omega⟩ l) = (m ((c : Thread nD τ).loc main_arg9) : FVec Ideal S3x256x256 .f32) (ix3 r k l) := by
  blk_ext! [iblk, V, idx t]

/-- The experts' stacked first biases: the argument. -/
theorem read10 (c : Dev nD) (t : Fin cfg0.N) (r : Fin 3) (k : Fin 256) :
    (iblk m c 10 t : FVec Ideal S768 .f32) (ix1 ⟨256 * r.val + k.val, by omega⟩) = (m ((c : Thread nD τ).loc main_arg10) : FVec Ideal S3x256 .f32) (ix2 r k) := by
  blk_ext! [iblk, V, idx t]

/-- The experts' second layers, rounded on entry, which is no change here: the argument. -/
theorem read11 (c : Dev nD) (t : Fin cfg0.N) (r : Fin 3) (j : Fin 128) (k : Fin 256) :
    (iblk m c 11 t : FVec Ideal S3x128x256 .bf16) (ix3 r j k) = (m ((c : Thread nD τ).loc main_arg11) : FVec Ideal S3x128x256 .f32) (ix3 r j k) := by
  blk_ext! [iblk, V, idx t]

/-- The experts' second biases: the argument. -/
theorem read12 (c : Dev nD) (t : Fin cfg0.N) (r : Fin 3) (j : Fin 128) :
    (iblk m c 12 t : FVec Ideal S3x128 .f32) (ix2 r j) = (m ((c : Thread nD τ).loc main_arg12) : FVec Ideal S3x128 .f32) (ix2 r j) := by
  blk_ext! [iblk, V, idx t]

/-- The function of the device's argument arrays that the result array is shown to hold. -/
abbrev G (c : Dev nD) : Buf (Elt Ideal) ((c.tc : Thread nD τ).loc main_v6) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- Entry `(b, n)` of the result's block `t` is entry `(64 t + b, n)` of the result. -/
theorem place (t : Fin cfg0.N) (b : Fin 64) (n : Fin 50) :
    (win0_13.blk t).view.emb (ix2 b n) = (ix2 (row t b) n : S4096x50.Idx) := by
  blk_ext! [idx t]
  rfl

/-- Where every sentiment is the number of an expert, the result array ends holding `G`: the 64 blocks of 64 rows tile
    it, and each is the scores of its rows. -/
theorem final (c : Dev nD)
    (hs : ∀ i : S4096x50.Idx, (m ((c : Thread nD τ).loc main_arg4) : IVec S4096x50 32) i
      = BitVec.ofNat 32 (expert ((m ((c : Thread nD τ).loc main_arg4) : IVec S4096x50 32) i)).val) :
    (dats m 0 c).arrAt 13 cfg0.N = G m c := by
  refine (dats m 0 c).arrAt_eq_of_covers 13 _ (by decide +kernel) fun t hf y => ?_
  blk_simp
  rw [after0_13]
  obtain ⟨b, n, rfl⟩ : ∃ (b : Fin 64) (n : Fin 50), y = ix2 b n := ⟨y 0, y 1, eq_ix2 y⟩
  rw [place]
  refine (out_apply _ _ _ _ _ _ _ _ _ _ _ _ _ b n _ ((read4 m c t b n).trans (hs _))).trans ?_
  simp only [read0, read1, read2, read3, read5, read6, read7, read8, read9, read10, read11, read12]
  rfl

end Cert.KernelIdeal.Block

end
-- ==== Proof.Ref.lean ====
/- What the reference computes, at one index: each of its networks' outputs, the choice of an expert's output by the
   sentiment, and the inner product. -/
module

public import proofs.«01_k».proof.Proof.Spec
public import proofs.«01_k».proof.Proof.Gen.ReferenceIdeal.Run
public import Idealize.ShloMosaic.Lib.Pointwise
public import Idealize.ShloMosaic.Lib.Tactic.WordOmega

@[expose] public section

set_option maxRecDepth 16384

noncomputable section

namespace Cert.ReferenceIdeal.Stage

open Cert.ReferenceIdeal Cert.ReferenceIdeal.Gen Cert.Score Idealize.ShloMosaic Idealize.ShloMosaic.TcCoe Idealize.SL.Sem

/-- The reference's rectifier on an array: the entries above zero as they are, the others times the constant. -/
def leak {S : Shape} (hb : S_.BroadcastsInDim S (![] : Fin 0 → Fin S.rank)) (x : FVec Ideal S .f32) : FVec Ideal S .f32 :=
  select (cmpf .ogt x (broadcastInDim S ![] hb (constant S_ .f32 0x00000000#32))) x
    (mulf (broadcastInDim S ![] hb (constant S_ .f32 0x3C23D70A#32)) x)

/-- It is the leaky rectifier at every index. -/
theorem leak_apply {S : Shape} (hb : S_.BroadcastsInDim S (![] : Fin 0 → Fin S.rank)) (x : FVec Ideal S .f32) (i : S.Idx) :
    leak hb x i = lk (x i) := by
  pointwise [leak, lk, ofBits_slope]

/-- The users' hidden layer. -/
def userHidden (A0 A1 : FVec Ideal S4096x128 .f32) (A5 : FVec Ideal S256x256 .f32) (A6 : FVec Ideal S256 .f32) : FVec Ideal S4096x256 .f32 :=
  leak bcast_S_S4096x256 (addf (Host.dotGeneral dot_S4096x256_S256x256_S4096x256_1_0_0_1_n_n none
    (concatenate S4096x256 1 [⟨S4096x128, A0⟩, ⟨S4096x128, A1⟩] concatenates_S4096x128_S4096x128_S4096x256_d1)
    (transpose S256x256 [1, 0] A5 transposes_S256x256_S256x256_1_0))
    (broadcastInDim S4096x256 ![0, 1] bcast_S1x256_S4096x256_0_1 (broadcastInDim S1x256 ![1] bcast_S256_S1x256_1 A6)))

/-- The users' embeddings. -/
def user (A0 A1 : FVec Ideal S4096x128 .f32) (A5 : FVec Ideal S256x256 .f32) (A6 : FVec Ideal S256 .f32)
    (A7 : FVec Ideal S128x256 .f32) (A8 : FVec Ideal S128 .f32) : FVec Ideal S4096x128 .f32 :=
  leak bcast_S_S4096x128 (addf (Host.dotGeneral dot_S4096x256_S256x128_S4096x128_1_0_0_1_n_n none (userHidden A0 A1 A5 A6)
    (transpose S256x128 [1, 0] A7 transposes_S128x256_S256x128_1_0))
    (broadcastInDim S4096x128 ![0, 1] bcast_S1x128_S4096x128_0_1 (broadcastInDim S1x128 ![1] bcast_S128_S1x128_1 A8)))

/-- The experts' hidden layers. -/
def expertHidden (A2 A3 : FVec Ideal S4096x50x128 .f32) (A9 : FVec Ideal S3x256x256 .f32) (A10 : FVec Ideal S3x256 .f32) :
    FVec Ideal S3x4096x50x256 .f32 :=
  leak bcast_S_S3x4096x50x256 (addf (transpose S3x4096x50x256 [0, 2, 3, 1]
    (Host.dotGeneral dot_S3x256x256_S4096x50x256_S3x256x4096x50_2_2_01_01_n_n none A9
      (concatenate S4096x50x256 2 [⟨S4096x50x128, A2⟩, ⟨S4096x50x128, A3⟩] concatenates_S4096x50x128_S4096x50x128_S4096x50x256_d2))
      transposes_S3x256x4096x50_S3x4096x50x256_0_2_3_1)
    (broadcastInDim S3x4096x50x256 ![0, 1, 2, 3] bcast_S3x1x1x256_S3x4096x50x256_0_1_2_3
      (broadcastInDim S3x1x1x256 ![0, 3] bcast_S3x256_S3x1x1x256_0_3 A10)))

/-- The experts' outputs. -/
def experts (A2 A3 : FVec Ideal S4096x50x128 .f32) (A9 : FVec Ideal S3x256x256 .f32) (A10 : FVec Ideal S3x256 .f32)
    (A11 : FVec Ideal S3x128x256 .f32) (A12 : FVec Ideal S3x128 .f32) : FVec Ideal S3x4096x50x128 .f32 :=
  leak bcast_S_S3x4096x50x128 (addf (Host.dotGeneral dot_S3x4096x50x256_S3x128x256_S3x4096x50x128_3_2_12_1_0_0 none
    (expertHidden A2 A3 A9 A10) A11)
    (broadcastInDim S3x4096x50x128 ![0, 1, 2, 3] bcast_S3x1x1x128_S3x4096x50x128_0_1_2_3
      (broadcastInDim S3x1x1x128 ![0, 3] bcast_S3x128_S3x1x1x128_0_3 A12)))

/-- The sentiments as the index words of the choice, the negative ones counted from the end. -/
def words (A4 : IVec S4096x50 32) : IVec S4096x50x1x1 32 :=
  select (cmpi .slt (broadcastInDim S4096x50x1x1 ![0, 1] bcast_S4096x50_S4096x50x1x1_0_1 A4) (broadcastInDim S4096x50x1x1 ![] bcast_S_S4096x50x1x1 (constantI S_ 32 0#32)))
    (addi (broadcastInDim S4096x50x1x1 ![0, 1] bcast_S4096x50_S4096x50x1x1_0_1 A4) (broadcastInDim S4096x50x1x1 ![] bcast_S_S4096x50x1x1 (constantI S_ 32 3#32)))
    (broadcastInDim S4096x50x1x1 ![0, 1] bcast_S4096x50_S4096x50x1x1_0_1 A4)

/-- Which index words name an expert. -/
def inRange (A4 : IVec S4096x50 32) : IVec S4096x50x1 1 :=
  Host.reduce IntOp.andi (andi (cmpi .sge (words A4) (broadcastInDim S4096x50x1x1 ![] bcast_S_S4096x50x1x1 (constantI S_ 32 0#32)))
    (cmpi .sle (words A4) (broadcastInDim S4096x50x1x1 ![0, 1, 2, 3] bcast_S1x1x1x1_S4096x50x1x1_0_1_2_3
      (broadcastInDim S1x1x1x1 ![3] bcast_S1_S1x1x1x1_3 (constantI S1 32 2#32))))) (constantI S_ 1 1#1)
    reducesTo_S4096x50x1x1_S4096x50x1_d3 h_S_

/-- The chosen experts' outputs. -/
def chosen (A4 : IVec S4096x50 32) (E : FVec Ideal S3x4096x50x128 .f32) : FVec Ideal S4096x50x1x128 .f32 :=
  select (broadcastInDim S4096x50x1x128 ![0, 1, 2] bcast_S4096x50x1_S4096x50x1x128_0_1_2 (inRange A4))
    (Host.gather gather_S4096x50x3x128_S4096x50x1x1_S4096x50x1x128_3_2_01_01_2_3_111128
      (transpose S4096x50x3x128 [1, 2, 0, 3] E transposes_S3x4096x50x128_S4096x50x3x128_1_2_0_3) (words A4))
    (broadcastInDim S4096x50x1x128 ![] bcast_S_S4096x50x1x128 (constant S_ .f32 0x7FC00000#32))

/-- The whole reference over its arguments. -/
def whole (A0 A1 : FVec Ideal S4096x128 .f32) (A2 A3 : FVec Ideal S4096x50x128 .f32) (A4 : IVec S4096x50 32)
    (A5 : FVec Ideal S256x256 .f32) (A6 : FVec Ideal S256 .f32) (A7 : FVec Ideal S128x256 .f32) (A8 : FVec Ideal S128 .f32)
    (A9 : FVec Ideal S3x256x256 .f32) (A10 : FVec Ideal S3x256 .f32) (A11 : FVec Ideal S3x128x256 .f32)
    (A12 : FVec Ideal S3x128 .f32) : FVec Ideal S4096x50 .f32 :=
  Host.reduceAdd (mulf (broadcastInDim S4096x50x128 ![0, 1, 2] bcast_S4096x1x128_S4096x50x128_0_1_2
      (broadcastInDim S4096x1x128 ![0, 2] bcast_S4096x128_S4096x1x128_0_2 (user A0 A1 A5 A6 A7 A8)))
    (shapeCast S4096x50x128 (chosen A4 (experts A2 A3 A9 A10 A11 A12)) shapeCasts_S4096x50x1x128_S4096x50x128))
    (constant S_ .f32 0x00000000#32) reducesTo_S4096x50x128_S4096x50_d2 h_S_

/-- The reference's result is that function of its arguments. -/
theorem res_eq (m : (ℓ : Loc nD τ sig) → Buf (Elt Ideal) ℓ) (c : Dev nD) :
    Value.res_main_v48 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := rfl

/-- The users' embeddings, at an index. -/
theorem user_apply (A0 A1 : FVec Ideal S4096x128 .f32) (A5 : FVec Ideal S256x256 .f32) (A6 : FVec Ideal S256 .f32)
    (A7 : FVec Ideal S128x256 .f32) (A8 : FVec Ideal S128 .f32) (b : Fin 4096) (j : Fin 128) :
    user A0 A1 A5 A6 A7 A8 (ix2 b j)
      = mlp (fun l => A0 (ix2 b l)) (fun l => A1 (ix2 b l)) (fun k l => A5 (ix2 k ⟨l.val, by omega⟩))
          (fun k l => A5 (ix2 k ⟨128 + l.val, by omega⟩)) (fun k => A6 (ix1 k)) (fun j k => A7 (ix2 j k)) (fun j => A8 (ix1 j)) j := by
  unfold user userHidden
  rw [leak_apply]
  unfold mlp Cert.Score.hidden
  congr 1
  pointwise [leak_apply]

/-- The experts' outputs, at an index. -/
theorem experts_apply (A2 A3 : FVec Ideal S4096x50x128 .f32) (A9 : FVec Ideal S3x256x256 .f32) (A10 : FVec Ideal S3x256 .f32)
    (A11 : FVec Ideal S3x128x256 .f32) (A12 : FVec Ideal S3x128 .f32) (r : Fin 3) (b : Fin 4096) (n : Fin 50) (j : Fin 128) :
    experts A2 A3 A9 A10 A11 A12 (ix4 r b n j)
      = mlp (fun l => A2 (ix3 b n l)) (fun l => A3 (ix3 b n l)) (fun k l => A9 (ix3 r k ⟨l.val, by omega⟩))
      (fun k l => A9 (ix3 r k ⟨128 + l.val, by omega⟩)) (fun k => A10 (ix2 r k)) (fun j k => A11 (ix3 r j k))
      (fun j => A12 (ix2 r j)) j := by
  unfold experts expertHidden
  rw [leak_apply]
  unfold mlp Cert.Score.hidden
  congr 1
  pointwise [leak_apply]
  simp only [mul_comm (A9 _)]

/-- An index word that names an expert is kept as it is. -/
theorem words_apply (A4 : IVec S4096x50 32) (b : Fin 4096) (n : Fin 50) (z z' : Fin 1) (r : Fin 3)
    (hs : A4 (ix2 b n) = BitVec.ofNat 32 r.val) : words A4 (ix4 b n z z') = BitVec.ofNat 32 r.val := by
  pointwise [words, hs]
  fin_cases r <;> rfl

/-- It is in range. -/
theorem inRange_apply (A4 : IVec S4096x50 32) (b : Fin 4096) (n : Fin 50) (z : Fin 1) (r : Fin 3)
    (hs : A4 (ix2 b n) = BitVec.ofNat 32 r.val) : inRange A4 (ix3 b n z) = 1#1 := by
  pointwise [inRange, words_apply A4 b n _ _ r hs]
  simp only [Finset.univ_unique, Finset.fold_singleton]
  fin_cases r <;> rfl

/-- The dimension numbers of the reference's gather. -/
abbrev gd : GatherDims S4096x50x3x128 S4096x50x1x1 S4096x50x1x128 :=
  gather_S4096x50x3x128_S4096x50x1x1_S4096x50x1x128_3_2_01_01_2_3_111128

/-- The gather, at an index: the operand's row at the start index's word, read signed and clamped to 0, 1 or 2. -/
theorem gather_apply (X : FVec Ideal S4096x50x3x128 .f32) (w : IVec S4096x50x1x1 32) (b : Fin 4096) (n : Fin 50) (z : Fin 1)
    (j : Fin 128) :
    Host.gather gather_S4096x50x3x128_S4096x50x1x1_S4096x50x1x128_3_2_01_01_2_3_111128 X w (ix4 b n z j)
      = X (ix4 b n ⟨min (w (ix4 b n 0 0)).toInt.toNat 2, by omega⟩ j) := by
  have b0 : (0 : Fin 4) ∈ gd.operandBatchingDims := by show (0 : Fin 4) ∈ [0, 1]; decide
  have b1 : (1 : Fin 4) ∈ gd.operandBatchingDims := by show (1 : Fin 4) ∈ [0, 1]; decide
  have b2 : (2 : Fin 4) ∉ gd.operandBatchingDims := by show (2 : Fin 4) ∉ [0, 1]; decide
  have b3 : (3 : Fin 4) ∉ gd.operandBatchingDims := by show (3 : Fin 4) ∉ [0, 1]; decide
  have c2 : (2 : Fin 4) ∈ gd.collapsedSliceDims := by show (2 : Fin 4) ∈ [2]; decide
  have c3 : (3 : Fin 4) ∉ gd.collapsedSliceDims := by show (3 : Fin 4) ∉ [2]; decide
  have s2 : (2 : Fin 4) ∈ gd.startIndexMap := by show (2 : Fin 4) ∈ [2]; decide
  have s3 : (3 : Fin 4) ∉ gd.startIndexMap := by show (3 : Fin 4) ∉ [2]; decide
  have k0 : (0 : Fin 4) ∉ gd.sKept := fun h => ((gd.mem_sKept _).mp h).2 b0
  have k1 : (1 : Fin 4) ∉ gd.sKept := fun h => ((gd.mem_sKept _).mp h).2 b1
  have k2 : (2 : Fin 4) ∉ gd.sKept := fun h => ((gd.mem_sKept _).mp h).1 c2
  have k3 : (3 : Fin 4) ∈ gd.sKept := (gd.mem_sKept _).mpr ⟨c3, b3⟩
  have hsi : gd.siIdx (ix4 b n z j) ⟨List.idxOf (2 : Fin 4) gd.startIndexMap, List.idxOf_lt_length_iff.2 s2⟩ = ix4 b n 0 0 := by
    funext a; refine Fin.ext ?_
    match a with
    | ⟨0, _⟩ => rfl
    | ⟨1, _⟩ => rfl
    | ⟨2, _⟩ => show z.val = 0; omega
    | ⟨3, _⟩ => rfl
  unfold Host.gather
  congr 1
  funext a
  refine Fin.ext ?_
  show gd.start (ix4 b n z j) w a + gd.batchCoord (ix4 b n z j) a + gd.offCoord (ix4 b n z j) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [gd.start_batching _ _ _ b0, gd.offCoord_eq_zero _ _ k0]
    unfold GatherDims.batchCoord
    rw [dif_pos b0]
    simp only [Nat.zero_add, Nat.add_zero]
    rfl
  · rw [gd.start_batching _ _ _ b1, gd.offCoord_eq_zero _ _ k1]
    unfold GatherDims.batchCoord
    rw [dif_pos b1]
    simp only [Nat.zero_add, Nat.add_zero]
    rfl
  · rw [gd.batchCoord_eq_zero _ _ b2, gd.offCoord_eq_zero _ _ k2]
    unfold GatherDims.start
    rw [dif_pos s2, hsi]
    rfl
  · rw [gd.batchCoord_eq_zero _ _ b3]
    unfold GatherDims.start GatherDims.offCoord
    rw [dif_neg s3, dif_pos k3]
    simp only [Nat.zero_add, Nat.add_zero]
    rfl

/-- The chosen expert's output, at an index whose sentiment is the number of expert `r`. -/
theorem chosen_apply (A4 : IVec S4096x50 32) (E : FVec Ideal S3x4096x50x128 .f32) (b : Fin 4096) (n : Fin 50) (z : Fin 1)
    (j : Fin 128) (r : Fin 3) (hs : A4 (ix2 b n) = BitVec.ofNat 32 r.val) :
    chosen A4 E (ix4 b n z j) = E (ix4 r b n j) := by
  have hw := words_apply A4 b n 0 0 r hs
  pointwise [chosen, inRange_apply A4 b n _ r hs, gather_apply, hw]
  fin_cases r <;> rfl

/-- The reference's result, where every sentiment is the number of an expert, is the problem's function. -/
theorem whole_eq (A0 A1 : FVec Ideal S4096x128 .f32) (A2 A3 : FVec Ideal S4096x50x128 .f32) (A4 : IVec S4096x50 32)
    (A5 : FVec Ideal S256x256 .f32) (A6 : FVec Ideal S256 .f32) (A7 : FVec Ideal S128x256 .f32) (A8 : FVec Ideal S128 .f32)
    (A9 : FVec Ideal S3x256x256 .f32) (A10 : FVec Ideal S3x256 .f32) (A11 : FVec Ideal S3x128x256 .f32)
    (A12 : FVec Ideal S3x128 .f32) (hs : ∀ i : S4096x50.Idx, A4 i = BitVec.ofNat 32 (expert (A4 i)).val) :
    whole A0 A1 A2 A3 A4 A5 A6 A7 A8 A9 A10 A11 A12 = result A0 A1 A2 A3 A4 A5 A6 A7 A8 A9 A10 A11 A12 := by
  funext i
  obtain ⟨b, n, rfl⟩ : ∃ (b : Fin 4096) (n : Fin 50), i = ix2 b n := ⟨i 0, i 1, eq_ix2 i⟩
  pointwise [whole, user_apply, chosen_apply A4 _ b n _ _ _ (hs _), experts_apply]
  rfl

end Cert.ReferenceIdeal.Stage

end
-- ==== Proof.Range.lean ====
/- The precondition, read back: an input of which the printed predicate is true has, at every position, a sentiment word
   that is one of 0, 1 and 2. -/
module

public import proofs.«01_k».proof.Proof.Spec
public import proofs.«01_k».proof.Proof.Gen.Pre_sentiment_in_range
public import Idealize.ShloMosaic.Lib.ReduceAll
public import Idealize.ShloMosaic.Lib.Pointwise

@[expose] public section

noncomputable section

namespace Cert.Score

open Idealize.ShloMosaic

/-- A word that is at least 0 and below 3, read signed, is the word of the expert it names. -/
theorem word_of_range (w : BitVec 32) (h0 : 0 ≤ w.toInt) (h3 : w.toInt < 3) : w = BitVec.ofNat 32 (expert w).val := by
  have hw : w.toNat < 2 ^ 32 := w.isLt
  rw [BitVec.toInt_eq_toNat_cond] at h0 h3
  have h : w.toNat < 3 := by split at h0 <;> omega
  apply BitVec.eq_of_toNat_eq
  rw [BitVec.toNat_ofNat]
  show w.toNat = w.toNat % 3 % 2 ^ 32
  omega

end Cert.Score

namespace Cert.Pre_sentiment_in_range

open Idealize.ShloMosaic Cert.Score

/-- Under the precondition every sentiment word is the word of the expert it names. -/
theorem words (A0 A1 : FVec Ideal S4096x128 .f32) (A2 A3 : FVec Ideal S4096x50x128 .f32) (A4 : IVec S4096x50 32)
    (A5 : FVec Ideal S256x256 .f32) (A6 : FVec Ideal S256 .f32) (A7 : FVec Ideal S128x256 .f32) (A8 : FVec Ideal S128 .f32)
    (A9 : FVec Ideal S3x256x256 .f32) (A10 : FVec Ideal S3x256 .f32) (A11 : FVec Ideal S3x128x256 .f32)
    (A12 : FVec Ideal S3x128 .f32) (h : fn A0 A1 A2 A3 A4 A5 A6 A7 A8 A9 A10 A11 A12 = fun _ => 1#1)
    (i : S4096x50.Idx) : A4 i = BitVec.ofNat 32 (expert (A4 i)).val := by
  haveI : Subsingleton S_.Idx := ⟨fun a b => funext fun k => k.elim0⟩
  have hr := congrFun h (Shape.Idx.first (s := S_) Facts.h_S_)
  unfold fn at hr
  have hi := Host.reduce_andi_all _ _ _ _ _ hr i
  obtain ⟨h0, h3⟩ := IntOp.andi_eq_one.1 hi
  exact word_of_range _ (IntOp.cmpi_sge.1 h0) (IntOp.cmpi_slt.1 h3)

end Cert.Pre_sentiment_in_range

end
-- ==== Proof.lean ====
/- The claims, assembled. The frames of the kernel and of its idealization are the generated ones; the reference's comes
   with the run that computes its result. The value claim joins three facts: the array that the kernel leaves is the
   problem's scores (`Proof/Array.lean`, over what one block computes, `Proof/Block.lean`), the array that the reference
   leaves is the problem's scores (`Proof/Ref.lean`), and the precondition gives the range of the sentiment words that
   both need (`Proof/Range.lean`). The scores themselves are `Proof/Spec.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_sentiment_in_range
public import proofs.«01_k».proof.Proof.Array
public import proofs.«01_k».proof.Proof.Ref
public import proofs.«01_k».proof.Proof.Range
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to its end, leaves its arguments as they were and every semaphore at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does its idealization under the precondition. -/
theorem frame_pi_pre : Cert.quiescent_KernelIdeal_pre_sentiment_in_range := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference under the precondition. -/
theorem frame_ri_pre : Cert.quiescent_ReferenceIdeal_pre_sentiment_in_range := fun m ρ _ => frame_ri m ρ trivial

/-- The rectifier's slope, named in the idealization: the table gives the name the real that the f32 word denotes, at both
    of the formats in which the kernel writes the constant. -/
theorem preserves : Cert.preserves_Kernel_KernelIdeal :=
  ⟨IdealRules.named_const.statement Cert.KernelIdeal.κ "slope" .f32 0x3C23D70A#32 ((5368709 / 536870912 : ℝ) : EReal) rfl,
    IdealRules.named_const.statement Cert.KernelIdeal.κ "slope" .bf16 0x3C24#16 ((5368709 / 536870912 : ℝ) : EReal) rfl⟩

/-- From arguments that agree, and whose sentiments are in range, the kernel's result array and the reference's are both
    the problem's scores, on every device. -/
theorem algebraic : Cert.algebraic_KernelIdeal_ReferenceIdeal_pre_sentiment_in_range := by
  intro m ρ m' ρ' hpre hagree
  have hs := fun c => Cert.Pre_sentiment_in_range.words _ _ _ _ _ _ _ _ _ _ _ _ _ (hpre c)
  refine ⟨fun c => Cert.KernelIdeal.Block.G m c,
    (θ_run Cert.KernelIdeal.defs _ _).mono (fun _ h c => ⟨(h c).1.trans (Cert.KernelIdeal.Block.final m c (hs c)), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  obtain ⟨e0, e1, e2, e3, e4, e5, e6, e7, e8, e9, e10, e11, e12⟩ := hagree c
  rw [Cert.ReferenceIdeal.Stage.res_eq, e0, e1, e2, e3, e4, e5, e6, e7, e8, e9, e10, e11, e12]
  exact Cert.ReferenceIdeal.Stage.whole_eq _ _ _ _ _ _ _ _ _ _ _ _ _ (hs c)

/-- Every claim of the certificate. -/
theorem claim : Cert.Claim := ⟨Cert.Kernel.Gen.facts, Cert.KernelIdeal.Gen.facts, Cert.ReferenceIdeal.Gen.facts,
  Cert.Pre_sentiment_in_range.Gen.facts, frame_p, frame_pi, frame_pi_pre, frame_ri, frame_ri_pre, preserves, algebraic⟩

end Cert.Proof

end
